-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_z_below_inf [hPre_z_below_inf : Cert.Pre_z_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_z_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_z_below_inf [hPre_z_below_inf : Cert.Pre_z_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_z_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_z_below_inf [hKernelIdeal : Cert.KernelIdeal.Facts] [hPre_z_below_inf : Cert.Pre_z_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_z_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_z_below_inf [hReferenceIdeal : Cert.ReferenceIdeal.Facts] [hPre_z_below_inf : Cert.Pre_z_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_z_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_z_below_inf [hKernelIdeal : Cert.KernelIdeal.Facts] [hReferenceIdeal : Cert.ReferenceIdeal.Facts] [hPre_z_below_inf : Cert.Pre_z_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_z_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_z_below_inf : Cert.Pre_z_below_inf.Facts),
    quiescent_Kernel (hKernel := hKernel)
    ∧ quiescent_KernelIdeal (hKernelIdeal := hKernelIdeal)
    ∧ quiescent_KernelIdeal_pre_z_below_inf (hKernelIdeal := hKernelIdeal) (hPre_z_below_inf := hPre_z_below_inf)
    ∧ quiescent_ReferenceIdeal (hReferenceIdeal := hReferenceIdeal)
    ∧ quiescent_ReferenceIdeal_pre_z_below_inf (hReferenceIdeal := hReferenceIdeal) (hPre_z_below_inf := hPre_z_below_inf)
    ∧ preserves_Kernel_KernelIdeal
    ∧ algebraic_KernelIdeal_ReferenceIdeal_pre_z_below_inf (hKernelIdeal := hKernelIdeal) (hReferenceIdeal := hReferenceIdeal) (hPre_z_below_inf := hPre_z_below_inf)
-- ==== Pre_z_below_inf.lean ====
abbrev S4x4096x32 : Shape := ⟨3, ![4, 4096, 32]⟩
abbrev S4x4096x1024 : Shape := ⟨3, ![4, 4096, 1024]⟩
abbrev S64x1024 : Shape := ⟨2, ![64, 1024]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S4x4096x32 : S_.BroadcastsInDim S4x4096x32 (![] : Fin 0 → Fin S4x4096x32.rank)

variable [Facts]

def fn {F : FTy → Type} [FloatOps F] (main_arg0 : FVec F S4x4096x32 .f32) (main_arg1 : FVec F S4x4096x1024 .f32) (main_arg2 : FVec F S64x1024 .f32) (main_arg3 : FVec F S64 .f32) (main_arg4 : FVec F S1x64 .f32) (main_arg5 : FVec F S1 .f32) : IVec S4x4096x32 1 :=
  let main_cst : FVec F S_ .f32 := constant S_ .f32 0x7F800000#32
  let main_v0 : FVec F S4x4096x32 .f32 := broadcastInDim S4x4096x32 ![] bcast_S_S4x4096x32 main_cst
  let main_v1 : IVec S4x4096x32 1 := cmpf .olt main_arg0 main_v0
  main_v1
-- ==== Kernel.lean ====
abbrev S4x4096x32 : Shape := ⟨3, ![4, 4096, 32]⟩
abbrev S4x4096x1024 : Shape := ⟨3, ![4, 4096, 1024]⟩
abbrev S64x1024 : Shape := ⟨2, ![64, 1024]⟩
abbrev S64 : Shape := ⟨1, ![64]⟩
abbrev S1x64 : Shape := ⟨2, ![1, 64]⟩
abbrev S1 : Shape := ⟨1, ![1]⟩
abbrev S16384x32 : Shape := ⟨2, ![16384, 32]⟩
abbrev S16384x1024 : Shape := ⟨2, ![16384, 1024]⟩
abbrev S1024x64 : Shape := ⟨2, ![1024, 64]⟩
abbrev S16384x1 : Shape := ⟨2, ![16384, 1]⟩
abbrev S2048x32 : Shape := ⟨2, ![2048, 32]⟩
abbrev S2048x1024 : Shape := ⟨2, ![2048, 1024]⟩
abbrev S2048x1 : Shape := ⟨2, ![2048, 1]⟩
abbrev S256x1024 : Shape := ⟨2, ![256, 1024]⟩
abbrev S256x64 : Shape := ⟨2, ![256, 64]⟩
abbrev S256 : Shape := ⟨1, ![256]⟩
abbrev S256x1 : Shape := ⟨2, ![256, 1]⟩
abbrev S1x2048 : Shape := ⟨2, ![1, 2048]⟩
abbrev S32x2048 : Shape := ⟨2, ![32, 2048]⟩
abbrev S32x512 : Shape := ⟨2, ![32, 512]⟩
abbrev S1x512 : Shape := ⟨2, ![1, 512]⟩
abbrev S512 : Shape := ⟨1, ![512]⟩

abbrev nBuf : Space → Nat
  | .hbm => 12
  | .vmem => 11
  | .smem => 1
  | _ => 0

abbrev bufTy : (tb : Table) → Fin (tcTables nBuf tb) → BufTy
  | .hbm, ⟨0, _⟩ => ⟨S4x4096x32, .f32⟩
  | .hbm, ⟨1, _⟩ => ⟨S4x4096x1024, .f32⟩
  | .hbm, ⟨2, _⟩ => ⟨S64x1024, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S16384x32, .f32⟩
  | .hbm, ⟨7, _⟩ => ⟨S16384x1024, .f32⟩
  | .hbm, ⟨8, _⟩ => ⟨S1024x64, .f32⟩
  | .hbm, ⟨9, _⟩ => ⟨S1x64, .f32⟩
  | .hbm, ⟨10, _⟩ => ⟨S16384x32, .f32⟩
  | .hbm, ⟨11, _⟩ => ⟨S16384x1, .f32⟩
  | .local _ .vmem, ⟨0, _⟩ => ⟨S2048x32, .f32⟩
  | .local _ .vmem, ⟨1, _⟩ => ⟨S2048x32, .f32⟩
  | .local _ .vmem, ⟨2, _⟩ => ⟨S2048x1024, .f32⟩
  | .local _ .vmem, ⟨3, _⟩ => ⟨S2048x1024, .f32⟩
  | .local _ .vmem, ⟨4, _⟩ => ⟨S1024x64, .f32⟩
  | .local _ .vmem, ⟨5, _⟩ => ⟨S1x64, .f32⟩
  | .local _ .vmem, ⟨6, _⟩ => ⟨S1x64, .f32⟩
  | .local _ .vmem, ⟨7, _⟩ => ⟨S2048x32, .f32⟩
  | .local _ .vmem, ⟨8, _⟩ => ⟨S2048x32, .f32⟩
  | .local _ .vmem, ⟨9, _⟩ => ⟨S2048x1, .f32⟩
  | .local _ .vmem, ⟨10, _⟩ => ⟨S2048x1, .f32⟩
  | .local _ .smem, ⟨0, _⟩ => ⟨S1, .f32⟩
  | _, _ => ⟨S4x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x4096x32 : Shape := ⟨3, ![4, 4096, 32]⟩
abbrev S4x4096x1024 : Shape := ⟨3, ![4, 4096, 1024]⟩
abbrev S64x1024 : Shape := ⟨2, ![64, 1024]⟩
abbrev S64 : Shape := ⟨1, ![64]⟩
abbrev S1x64 : Shape := ⟨2, ![1, 64]⟩
abbrev S1 : Shape := ⟨1, ![1]⟩
abbrev S16384x32 : Shape := ⟨2, ![16384, 32]⟩
abbrev S16384x1024 : Shape := ⟨2, ![16384, 1024]⟩
abbrev S1024x64 : Shape := ⟨2, ![1024, 64]⟩
abbrev S16384x64 : Shape := ⟨2, ![16384, 64]⟩
abbrev S_ : Shape := ⟨0, ![]⟩
abbrev S64x1 : Shape := ⟨2, ![64, 1]⟩
abbrev S16384x1 : Shape := ⟨2, ![16384, 1]⟩
abbrev S1x1 : Shape := ⟨2, ![1, 1]⟩
abbrev S32 : Shape := ⟨1, ![32]⟩
abbrev S1x32 : Shape := ⟨2, ![1, 32]⟩
abbrev S16384 : Shape := ⟨1, ![16384]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x32, .f32⟩
  | .hbm, ⟨1, _⟩ => ⟨S4x4096x1024, .f32⟩
  | .hbm, ⟨2, _⟩ => ⟨S64x1024, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S16384x32, .f32⟩
  | .hbm, ⟨7, _⟩ => ⟨S16384x1024, .f32⟩
  | .hbm, ⟨8, _⟩ => ⟨S1024x64, .f32⟩
  | .hbm, ⟨9, _⟩ => ⟨S16384x64, .f32⟩
  | .hbm, ⟨10, _⟩ => ⟨S1x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384x64, .f32⟩
  | .hbm, ⟨15, _⟩ => ⟨S16384x64, .f32⟩
  | .hbm, ⟨16, _⟩ => ⟨S64x1, .f32⟩
  | .hbm, ⟨17, _⟩ => ⟨S16384x1, .f32⟩
  | .hbm, ⟨18, _⟩ => ⟨S1x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1, .i1⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x32, .f32⟩
  | .hbm, ⟨41, _⟩ => ⟨S16384x32, .f32⟩
  | .hbm, ⟨42, _⟩ => ⟨S16384x32, .f32⟩
  | .hbm, ⟨43, _⟩ => ⟨S_, .f32⟩
  | .hbm, ⟨44, _⟩ => ⟨S_, .f32⟩
  | .hbm, ⟨45, _⟩ => ⟨S16384x32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S1x32, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S16384x32, .f32⟩
  | .hbm, ⟨58, _⟩ => ⟨S16384x32, .i1⟩
  | .hbm, ⟨59, _⟩ => ⟨S16384x32, .f32⟩
  | .hbm, ⟨60, _⟩ => ⟨S_, .f32⟩
  | .hbm, ⟨61, _⟩ => ⟨S16384, .f32⟩
  | .hbm, ⟨62, _⟩ => ⟨S_, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S16384x32, .f32⟩
  | .hbm, ⟨67, _⟩ => ⟨S_, .f32⟩
  | .hbm, ⟨68, _⟩ => ⟨S16384, .f32⟩
  | .hbm, ⟨69, _⟩ => ⟨S_, .f32⟩
  | .hbm, ⟨70, _⟩ => ⟨S16384, .f32⟩
  | .hbm, ⟨71, _⟩ => ⟨S16384, .f32⟩
  | .hbm, ⟨72, _⟩ => ⟨S16384, .f32⟩
  | .hbm, ⟨73, _⟩ => ⟨S16384, .f32⟩
  | .hbm, ⟨74, _⟩ => ⟨S16384, .f32⟩
  | .hbm, ⟨75, _⟩ => ⟨S16384x1, .f32⟩
  | .hbm, ⟨76, _⟩ => ⟨S16384x32, .f32⟩
  | .hbm, ⟨77, _⟩ => ⟨S16384x32, .f32⟩
  | .hbm, ⟨78, _⟩ => ⟨S_, .f32⟩
  | .hbm, ⟨79, _⟩ => ⟨S_, .f32⟩
  | .hbm, ⟨80, _⟩ => ⟨S16384x32, .f32⟩
  | .hbm, ⟨81, _⟩ => ⟨S16384x32, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S_, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x32, .f32⟩
  | .hbm, ⟨90, _⟩ => ⟨S16384x32, .f32⟩
  | _, _ => ⟨S4x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call2_call0_cst : Ref sig .tc := ⟨.hbm, 43, rfl⟩
abbrev main_call2_call0_v0 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_cst_4 : Ref sig .tc := ⟨.hbm, 62, rfl⟩
abbrev main_call3_v0 : Ref sig .tc := ⟨.hbm, 63, rfl⟩
abbrev main_call3_v1 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_7 : Ref sig .tc := ⟨.hbm, 78, rfl⟩
abbrev main_call4_v0 : Ref sig .tc := ⟨.hbm, 79, rfl⟩
abbrev main_call4_v1 : Ref sig .tc := ⟨.hbm, 80, rfl⟩
abbrev main_v45 : Ref sig .tc := ⟨.hbm, 81, rfl⟩
abbrev main_cst_8 : Ref sig .tc := ⟨.hbm, 82, rfl⟩
abbrev main_v46 : Ref sig .tc := ⟨.hbm, 83, rfl⟩
abbrev main_v47 : Ref sig .tc := ⟨.hbm, 84, rfl⟩
abbrev main_cst_9 : Ref sig .tc := ⟨.hbm, 85, rfl⟩
abbrev main_call5_v0 : Ref sig .tc := ⟨.hbm, 86, rfl⟩
abbrev main_call5_v1 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩

abbrev nD : Nat := 1
abbrev τ : Topo := Topo.v7x

variable {F : FTy → Type} [FloatOps F]
-- ==== Proof.Block.lean ====
/- One block of the launch, as a short expression: the gate's pre-activation by its eight row parts, lambda, the
   threshold by its four column parts, and the two blocks the body stores.  `outs_prob` and `outs_lam` say that the
   body's two stores are these expressions at the blocks it reads. -/
module

public import proofs.«01_k».proof.Proof.Gen.KernelIdeal.Value

@[expose] public section

set_option maxRecDepth 16384

noncomputable section

namespace Cert.KernelIdeal.Block

open Idealize.ShloMosaic Idealize.ShloMosaic.TcCoe Idealize.ShloMosaic.Tactic
open Cert.KernelIdeal.Gen Cert.KernelIdeal Cert.KernelIdeal.Facts

variable {F : FTy → Type} [FloatOps F]

/-- Rows `256 k …` of a block of features are a slice of it. -/
theorem xSlices (k : Fin 8) : S2048x1024.Slices ![256 * k.val, 0] S256x1024 := by
  revert k; decide +kernel

/-- Row `j` of a column part is a slice of it. -/
theorem rowSlices (j : Fin 32) : S32x512.Slices ![j.val, 0] S1x512 := by
  revert j; decide +kernel

/-- Columns `512 c …` of the transposed block are a slice of it. -/
theorem colSlices (c : Fin 4) : S32x2048.Slices ![0, 512 * c.val] S32x512 := by
  revert c; decide +kernel

/-- Columns `512 c …` of the row of lambdas are a slice of it. -/
theorem lamSlices (c : Fin 4) : S1x2048.Slices ![0, 512 * c.val] S1x512 := by
  revert c; decide +kernel

/-- The second layer's products summed, for 256 rows of features: the hidden layer is the product with the first
    weight, plus the bias, cut off at zero. -/
def mlpPart (x : FVec F S2048x1024 .f32) (w1 : FVec F S1024x64 .f32) (b1 w2 : FVec F S1x64 .f32) (k : Fin 8) :
    FVec F S256x1 .f32 :=
  shapeCast S256x1
    (multiReduction .add [1] S256
      (mulf
        (maximumf
          (addf
            (matmul dot_S256x1024_S1024x64_S256x64_1_0_0_1_n_n none
              (extractStridedSlice S256x1024 ![256 * k.val, 0] (shapeCast S2048x1024 x shapeCasts_S2048x1024_S2048x1024)
                (xSlices k))
              (shapeCast S1024x64 w1 shapeCasts_S1024x64_S1024x64)
              (constant S256x64 .f32 0x00000000#32))
            (broadcastTo S256x64 (shapeCast S1x64 b1 shapeCasts_S1x64_S1x64) broadcasts_S1x64_S256x64))
          (broadcast S256x64 (Scalar.ofBits .f32 0x00000000#32)))
        (broadcastTo S256x64 w2 broadcasts_S1x64_S256x64))
      0x00000000#32 reduces_S256x64_S256 (.inl rfl) rfl)
    shapeCasts_S256_S256x1

/-- The pre-activation of the gate, one row of 2048. -/
def logit (x : FVec F S2048x1024 .f32) (w1 : FVec F S1024x64 .f32) (b1 w2 : FVec F S1x64 .f32) (b2 : F .f32) :
    FVec F S1x2048 .f32 :=
  transpose S1x2048 [1, 0]
    (addf
      (concatenate S2048x1 0
        [⟨S256x1, mlpPart x w1 b1 w2 0⟩, ⟨S256x1, mlpPart x w1 b1 w2 1⟩, ⟨S256x1, mlpPart x w1 b1 w2 2⟩,
          ⟨S256x1, mlpPart x w1 b1 w2 3⟩, ⟨S256x1, mlpPart x w1 b1 w2 4⟩, ⟨S256x1, mlpPart x w1 b1 w2 5⟩,
          ⟨S256x1, mlpPart x w1 b1 w2 6⟩, ⟨S256x1, mlpPart x w1 b1 w2 7⟩]
        concatenates_S256x1_S256x1_S256x1_S256x1_S256x1_S256x1_S256x1_S256x1_S2048x1_d0)
      (broadcast S2048x1 b2))
    transposes_S2048x1_p1_0_S1x2048

/-- A row of one constant. -/
abbrev row (w : BitVec 32) : FVec F S1x2048 .f32 := broadcast S1x2048 (Scalar.ofBits .f32 w)

/-- Lambda from the gate's pre-activation: the log-sigmoid, plus 0.99. -/
def lamOf (o : FVec F S1x2048 .f32) : FVec F S1x2048 .f32 :=
  addf
    (subf (row 0x00000000#32)
      (select
        (cmpf .one (subf (subf (row 0x00000000#32) o) (row 0x00000000#32))
          (subf (subf (row 0x00000000#32) o) (row 0x00000000#32)))
        (addf (subf (row 0x00000000#32) o) (row 0x00000000#32))
        (addf (maximumf (subf (row 0x00000000#32) o) (row 0x00000000#32))
          (log1p (exp (subf (row 0x00000000#32)
            (absf (subf (subf (row 0x00000000#32) o) (row 0x00000000#32)))))))))
    (row 0x3F7D70A4#32)

/-- Row `j` of a column part, over all 32 rows. -/
def rowOf (z : FVec F S32x512 .f32) (j : Fin 32) : FVec F S32x512 .f32 :=
  broadcastTo S32x512 (extractStridedSlice S1x512 ![j.val, 0] z (rowSlices j)) broadcasts_S1x512_S32x512

/-- One where row `j` is at least the entry itself, zero elsewhere. -/
def gate (z : FVec F S32x512 .f32) (j : Fin 32) : FVec F S32x512 .f32 :=
  select (cmpf .oge (rowOf z j) z) (broadcast S32x512 (Scalar.ofBits .f32 0x3F800000#32))
    (broadcast S32x512 (Scalar.ofBits .f32 0x00000000#32))

/-- The count over some rows. -/
def counts (z : FVec F S32x512 .f32) (js : List (Fin 32)) : FVec F S32x512 .f32 :=
  js.foldl (fun a j => addf a (gate z j)) (broadcast S32x512 (Scalar.ofBits .f32 0x00000000#32))

/-- The gated sum over some rows. -/
def sums (z : FVec F S32x512 .f32) (js : List (Fin 32)) : FVec F S32x512 .f32 :=
  js.foldl (fun a j => addf a (mulf (gate z j) (rowOf z j)))
    (broadcast S32x512 (Scalar.ofBits .f32 0x00000000#32))

/-- The even rows, in the order they are added. -/
abbrev evens : List (Fin 32) := [0, 2, 4, 6, 8, 10, 12, 14, 16, 18, 20, 22, 24, 26, 28, 30]

/-- The odd rows, in the order they are added. -/
abbrev odds : List (Fin 32) := [1, 3, 5, 7, 9, 11, 13, 15, 17, 19, 21, 23, 25, 27, 29, 31]

/-- The threshold of a column part: the largest over the entries of (sum - 1 + lambda) / count. -/
def tauPart (zt : FVec F S32x2048 .f32) (lam : FVec F S1x2048 .f32) (c : Fin 4) : FVec F S1x512 .f32 :=
  let z : FVec F S32x512 .f32 := extractStridedSlice S32x512 ![0, 512 * c.val] zt (colSlices c)
  shapeCast S1x512
    (multiReduction .maximumf [0] S512
      (divf
        (addf
          (subf (addf (sums z evens) (sums z odds)) (broadcast S32x512 (Scalar.ofBits .f32 0x3F800000#32)))
          (broadcastTo S32x512 (extractStridedSlice S1x512 ![0, 512 * c.val] lam (lamSlices c))
            broadcasts_S1x512_S32x512))
        (addf (counts z evens) (counts z odds)))
      0xFF800000#32 reduces_S32x512_S512 (.inl rfl) rfl)
    shapeCasts_S512_S1x512

/-- The threshold, one row of 2048. -/
def tauOf (zt : FVec F S32x2048 .f32) (lam : FVec F S1x2048 .f32) : FVec F S1x2048 .f32 :=
  concatenate S1x2048 1
    [⟨S1x512, tauPart zt lam 0⟩, ⟨S1x512, tauPart zt lam 1⟩, ⟨S1x512, tauPart zt lam 2⟩,
      ⟨S1x512, tauPart zt lam 3⟩]
    concatenates_S1x512_S1x512_S1x512_S1x512_S1x2048_d1

/-- The block of projections from the block of scores and the row of lambdas. -/
def probOf (z : FVec F S2048x32 .f32) (lam : FVec F S1x2048 .f32) : FVec F S2048x32 .f32 :=
  let zt : FVec F S32x2048 .f32 := transpose S32x2048 [1, 0]
    (shapeCast S2048x32 z shapeCasts_S2048x32_S2048x32) transposes_S2048x32_p1_0_S32x2048
  transpose S2048x32 [1, 0]
    (divf
      (maximumf (subf zt (broadcastTo S32x2048 (tauOf zt lam) broadcasts_S1x2048_S32x2048))
        (broadcast S32x2048 (Scalar.ofBits .f32 0x00000000#32)))
      (broadcastTo S32x2048 (maximumf (subf (row 0x3F800000#32) lam) (row 0x3C23D70A#32))
        broadcasts_S1x2048_S32x2048))
    transposes_S32x2048_p1_0_S2048x32

/-- The row of lambdas from the blocks the body reads. -/
def lamRow (x : Vec F S2048x1024 .f32) (w1 : Vec F S1024x64 .f32) (b1 w2 : Vec F S1x64 .f32) (b2 : Vec F S1 .f32) :
    FVec F S1x2048 .f32 :=
  lamOf (logit x w1 b1 w2 (b2 (Shape.Idx.first (by decide))))

variable (m : (ℓ : Loc nD τ sig) → Buf (Elt F) ℓ)

/-- Reading the first entry of a one-entry vector gives that entry. -/
theorem ld_first {Val : EltTy → Type} {e : EltTy} (v : S1.Idx → Val e)
    (h : ∀ a, (![0] : Fin 1 → ℕ) a + S1.size a ≤ S1.size a) (h') :
    View.ld v (Rect.unit ![0] S1.size h) (Shape.Idx.first h') = v (Shape.Idx.first (by decide)) :=
  congrFun (View.ld_unit_zero (by decide) h v) _

/-- The body's lambda, as the short expression for a block. -/
theorem lam_pay (x w1 b1 w2 b2) :
    k0_pay16 (F := F) (k0_pay5 x w1 b1 w2) (k0_pay6 x w1 b1 w2) (k0_pay8 (k0_pay7 x) w1 b1 w2)
      (k0_pay9 (k0_pay3 x) w1 b1 w2) (k0_pay12 (k0_pay10 (k0_pay3 x) w1 b1) k0_pay11 w2)
      (k0_pay13 (k0_pay3 x) w1 b1 w2) (k0_pay14 (k0_pay3 x) w1 b1 w2) (k0_pay15 (k0_pay3 x)) w1 b1 w2
      (b2 (Shape.Idx.first (by decide))) = lamRow x w1 b1 w2 b2 := rfl

/-- What the body stores in the block of lambdas. -/
theorem outs_lam (c : Dev nD) (t : Fin cfg0.N) :
    (outsAt0 m c t).2 =
      transpose S2048x1 [1, 0] (lamRow (iblk m c 1 t) (iblk m c 2 t) (iblk m c 3 t) (iblk m c 4 t) (iblk m c 5 t))
        transposes_S1x2048_p1_0_S2048x1 := by
  unfold outsAt0 out0_A_7
  dsimp only
  rw [View.read_writes_eq_canon _ _ _ (cover0_A_7 c _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread]
  rw [View.canon_unit_zero (by decide)]
  simp only [View.ld_unit_zero (S := S2048x1024) (off := ![0, 0]) (by decide), View.ld_unit_zero (S := S1024x64) (off := ![0, 0]) (by decide),
    View.ld_unit_zero (S := S1x64) (off := ![0, 0]) (by decide), View.ld_unit_zero (S := S1) (off := ![0]) (by decide)]
  rw [ld_first]
  exact congrArg (fun o : FVec F S1x2048 .f32 => transpose S2048x1 [1, 0] o transposes_S1x2048_p1_0_S2048x1)
    (lam_pay (iblk m c 1 t) (iblk m c 2 t) (iblk m c 3 t) (iblk m c 4 t) (iblk m c 5 t))

set_option maxHeartbeats 4000000 in
/-- What the body stores in the block of projections. -/
theorem outs_prob (c : Dev nD) (t : Fin cfg0.N) :
    (outsAt0 m c t).1 =
      probOf (iblk m c 0 t)
        (lamRow (iblk m c 1 t) (iblk m c 2 t) (iblk m c 3 t) (iblk m c 4 t) (iblk m c 5 t)) := by
  unfold outsAt0 out0_A_6
  dsimp only
  rw [View.read_writes_eq_canon _ _ _ (cover0_A_6 c _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread]
  rw [View.canon_unit_zero (by decide)]
  simp only [View.ld_unit_zero (S := S2048x1024) (off := ![0, 0]) (by decide), View.ld_unit_zero (S := S1024x64) (off := ![0, 0]) (by decide),
    View.ld_unit_zero (S := S2048x32) (off := ![0, 0]) (by decide),
    View.ld_unit_zero (S := S1x64) (off := ![0, 0]) (by decide), View.ld_unit_zero (S := S1) (off := ![0]) (by decide)]
  rw [ld_first, lam_pay (F := F) (iblk m c 1 t) (iblk m c 2 t) (iblk m c 3 t) (iblk m c 4 t) (iblk m c 5 t)]
  generalize lamRow (F := F) _ _ _ _ _ = l
  generalize iblk m c 0 t = z
  simp only [probOf, tauOf, tauPart, counts, sums, evens, odds, List.foldl]
  rfl

end Cert.KernelIdeal.Block
-- ==== Proof.Row.lean ====
/- The mathematics of one row, with no program in it: the threshold taken as a maximum over the entries equals the
   threshold read off the sorted row, wherever it matters for the projection. -/
module

public import Idealize.ShloMosaic.PureOps
public import Idealize.ShloMosaic.PureOps.Ideal
public import Mathlib.Tactic.Linarith
public import Mathlib.Tactic.Positivity
public import Mathlib.Tactic.Ring
public import Mathlib.Tactic.Lift

@[expose] public section

noncomputable section

namespace Cert.Row

open Idealize.ShloMosaic Finset

variable {n : ℕ}

/-- One where the first is at least the second, zero elsewhere. -/
def ge01 (a b : EReal) : EReal := if b ≤ a then 1 else 0

/-- The candidate of entry `i`: the sum of the entries at least `z i`, minus one, plus lambda, over their number. -/
def cand (z : Fin n → EReal) (l : EReal) (i : Fin n) : EReal :=
  Ideal.div ((∑ j, ge01 (z j) (z i) * z j) - 1 + l) (∑ j, ge01 (z j) (z i))

/-- The threshold as the largest candidate. -/
def maxTau (z : Fin n → EReal) (l : EReal) : EReal := univ.sup (cand z l)

/-- One where position `k` of a descending row passes the support test, zero elsewhere. -/
def chk (s : Fin n → EReal) (l : EReal) (k : Fin n) : EReal :=
  if ∑ j ∈ univ.filter (· ≤ k), s j < 1 - l + ((k.val + 1 : ℕ) : ℝ) * s k then 1 else 0

/-- The threshold from a descending row: the sum of the passing positions, minus one, plus lambda, over their
    number, which counts as at least one. -/
def sortTau (s : Fin n → EReal) (l : EReal) : EReal :=
  Ideal.div ((∑ k, chk s l k * s k) - 1 + l) (max 1 (∑ k, chk s l k))

/-- What an entry exceeds a real threshold by; nothing for the entry minus infinity. -/
def over (τ : ℝ) (x : EReal) : ℝ := if x = ⊥ then 0 else max (x.toReal - τ) 0

/-- A sum of reals, read as extended reals. -/
theorem coe_sum {ι : Type*} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- A sum with a term minus infinity is minus infinity. -/
theorem sum_bot {ι : Type*} [DecidableEq ι] (s : Finset ι) (f : ι → EReal) (i : ι) (hi : i ∈ s) (h : f i = ⊥) :
    ∑ j ∈ s, f j = ⊥ := by
  rw [← add_sum_erase s f hi, h, EReal.bot_add]

/-- What an entry exceeds a threshold by is nonnegative. -/
theorem over_nonneg (τ : ℝ) (x : EReal) : 0 ≤ over τ x := by
  unfold over; split_ifs
  · exact le_refl _
  · exact le_max_right _ _

/-- An entry above the threshold exceeds it by their difference. -/
theorem over_of_lt {τ : ℝ} {x : EReal} (hx : x < ⊤) (h : (τ : EReal) < x) : over τ x = x.toReal - τ := by
  lift x to ℝ using ⟨hx.ne, (bot_le.trans_lt h).ne'⟩
  have h := EReal.coe_lt_coe_iff.1 h
  simp [over, h.le]

/-- An entry at most the threshold exceeds it by nothing. -/
theorem over_of_le {τ : ℝ} {x : EReal} (h : x ≤ (τ : EReal)) : over τ x = 0 := by
  unfold over; split_ifs with hb
  · rfl
  · lift x to ℝ using ⟨(h.trans_lt (EReal.coe_lt_top τ)).ne, hb⟩
    have h := EReal.coe_le_coe_iff.1 h
    simpa using h

/-- The difference is at most what the entry exceeds the threshold by. -/
theorem le_over {τ : ℝ} {x : EReal} (hx : x ≠ ⊥) : x.toReal - τ ≤ over τ x := by
  rw [over, if_neg hx]; exact le_max_left _ _

/-- Dividing minus infinity by a positive number. -/
theorem bot_div {k : ℝ} (hk : 0 < k) : Ideal.div ⊥ (k : EReal) = ⊥ := by
  rw [Ideal.div_coe hk.ne', EReal.bot_mul_coe_of_pos (by positivity)]

/-- Dividing a number by a positive number. -/
theorem coe_div {x k : ℝ} (hk : 0 < k) : Ideal.div x (k : EReal) = ((x / k : ℝ) : EReal) := by
  rw [Ideal.div_coe hk.ne', ← EReal.coe_mul]; congr 1; ring

section MaxTau

variable (z : Fin n → EReal)

/-- The entries at least entry `i`. -/
def above (i : Fin n) : Finset (Fin n) := univ.filter (z i ≤ z ·)

/-- The gates of entry `i` add up to the number of entries at least `z i`. -/
theorem sum_ge01 (i : Fin n) : ∑ j, ge01 (z j) (z i) = (((above z i).card : ℝ) : EReal) := by
  have : ∀ j, ge01 (z j) (z i) = ((if z i ≤ z j then (1 : ℝ) else 0 : ℝ) : EReal) := fun j => by
    unfold ge01; split_ifs <;> simp
  simp only [this, ← coe_sum, above, sum_boole]

/-- An entry is at least itself, so the number is positive. -/
theorem card_above_pos (i : Fin n) : (0 : ℝ) < (above z i).card := by
  exact_mod_cast card_pos.2 ⟨i, by simp [above]⟩

/-- The gated sum of entry `i` is the real sum of the entries at least `z i`. -/
theorem sum_ge01_mul (hz : ∀ j, z j < ⊤) (i : Fin n) (hi : z i ≠ ⊥) :
    ∑ j, ge01 (z j) (z i) * z j = ((∑ j ∈ above z i, (z j).toReal : ℝ) : EReal) := by
  rw [above, sum_filter, coe_sum]
  refine sum_congr rfl fun j _ => ?_
  unfold ge01; split_ifs with h
  · rw [one_mul, EReal.coe_toReal (hz j).ne fun hb => hi (le_bot_iff.1 (hb ▸ h))]
  · simp

/-- The candidate of an entry minus infinity is minus infinity. -/
theorem cand_bot (c : ℝ) (i : Fin n) (hi : z i = ⊥) : cand z ((1 - c : ℝ) : EReal) i = ⊥ := by
  rw [cand, sum_ge01, sum_bot univ _ i (mem_univ i) (by simp [ge01, hi]), sub_eq_add_neg, EReal.bot_add,
    EReal.bot_add, bot_div (card_above_pos z i)]

/-- The candidate of any other entry is a number. -/
theorem cand_coe (hz : ∀ j, z j < ⊤) (c : ℝ) (i : Fin n) (hi : z i ≠ ⊥) :
    cand z ((1 - c : ℝ) : EReal) i
      = (((∑ j ∈ above z i, (z j).toReal - c) / (above z i).card : ℝ) : EReal) := by
  rw [cand, sum_ge01, sum_ge01_mul z hz i hi, ← EReal.coe_one, ← EReal.coe_sub, ← EReal.coe_add,
    coe_div (card_above_pos z i)]
  congr 2; ring

/-- The largest candidate is the number that the entries exceed by `c = 1 - lambda` in all. -/
theorem maxTau_spec (hz : ∀ j, z j < ⊤) (hn : ∃ j, z j ≠ ⊥) (c : ℝ) (hc : 0 < c) :
    ∃ τ : ℝ, maxTau z ((1 - c : ℝ) : EReal) = τ ∧ ∑ j, over τ (z j) = c := by
  classical
  let t : Fin n → ℝ := fun i => (∑ j ∈ above z i, (z j).toReal - c) / (above z i).card
  obtain ⟨j₀, hj₀⟩ := hn
  obtain ⟨i, hi, hmax⟩ := exists_max_image (univ.filter (z · ≠ ⊥)) t ⟨j₀, by simpa using hj₀⟩
  have hi : z i ≠ ⊥ := by simpa using hi
  have hmax : ∀ k, z k ≠ ⊥ → t k ≤ t i := fun k hk => hmax k (by simpa using hk)
  have hsum : ∀ (k : Fin n) (τ : ℝ), ∑ j ∈ above z k, ((z j).toReal - τ)
      = ∑ j ∈ above z k, (z j).toReal - (above z k).card * τ := fun k τ => by
    rw [sum_sub_distrib, sum_const, nsmul_eq_mul]
  refine ⟨t i, le_antisymm (Finset.sup_le fun k _ => ?_) ?_, le_antisymm ?_ ?_⟩
  · by_cases hk : z k = ⊥
    · rw [cand_bot z c k hk]; exact bot_le
    · rw [cand_coe z hz c k hk]; exact EReal.coe_le_coe_iff.2 (hmax k hk)
  · rw [← cand_coe z hz c i hi]; exact le_sup (f := cand z ((1 - c : ℝ) : EReal)) (mem_univ i)
  · by_cases hT : ∃ j, ((t i : ℝ) : EReal) < z j
    · obtain ⟨k, hk, hmin⟩ := exists_min_image (univ.filter (((t i : ℝ) : EReal) < z ·)) z
        (by obtain ⟨j, hj⟩ := hT; exact ⟨j, by simpa using hj⟩)
      have hk : ((t i : ℝ) : EReal) < z k := by simpa using hk
      have hkb : z k ≠ ⊥ := (bot_le.trans_lt hk).ne'
      have h1 : ∑ j, over (t i) (z j) = ∑ j ∈ above z k, ((z j).toReal - t i) := by
        rw [above, sum_filter]
        refine sum_congr rfl fun j _ => ?_
        split_ifs with h
        · exact over_of_lt (hz j) (hk.trans_le h)
        · refine over_of_le (not_lt.1 fun hj => h (hmin j (by simpa using hj)))
      rw [h1, hsum]
      have h2 : (∑ j ∈ above z k, (z j).toReal - c) / (above z k).card ≤ t i := hmax k hkb
      rw [div_le_iff₀ (card_above_pos z k)] at h2
      linarith
    · rw [sum_eq_zero fun j _ => over_of_le (not_lt.1 fun h => hT ⟨j, h⟩)]; exact hc.le
  · have h1 : ∑ j ∈ above z i, ((z j).toReal - t i) = c := by
      rw [hsum]
      have : t i * (above z i).card = ∑ j ∈ above z i, (z j).toReal - c :=
        div_mul_cancel₀ _ (card_above_pos z i).ne'
      linarith
    calc c = ∑ j ∈ above z i, ((z j).toReal - t i) := h1.symm
      _ ≤ ∑ j ∈ above z i, over (t i) (z j) := sum_le_sum fun j hj => le_over fun hb => hi (by
          simpa [above, hb] using hj)
      _ ≤ ∑ j, over (t i) (z j) := sum_le_univ_sum_of_nonneg fun j => over_nonneg _ _

end MaxTau

section SortTau

variable (s : Fin n → EReal)

/-- Position `k` of a descending row passes the support test exactly where it is above the threshold. -/
theorem chk_eq (hs : ∀ j, s j < ⊤) (hd : Antitone s) (c τ : ℝ) (hτ : ∑ j, over τ (s j) = c) (k : Fin n) :
    chk s ((1 - c : ℝ) : EReal) k = ((if (τ : EReal) < s k then (1 : ℝ) else 0 : ℝ) : EReal) := by
  have hc : (1 : EReal) - ((1 - c : ℝ) : EReal) = (c : EReal) := by
    rw [← EReal.coe_one, ← EReal.coe_sub]; congr 1; ring
  suffices h : (∑ j ∈ univ.filter (· ≤ k), s j < (c : EReal) + ((k.val + 1 : ℕ) : ℝ) * s k) ↔ (τ : EReal) < s k by
    unfold chk; rw [hc]; simp only [h]; split_ifs <;> simp
  by_cases hk : s k = ⊥
  · rw [hk, EReal.coe_mul_bot_of_pos (by positivity), EReal.add_bot]; simp
  have hb : ∀ j ∈ univ.filter (· ≤ k), s j ≠ ⊥ := fun j hj h =>
    hk (le_bot_iff.1 (h ▸ hd (by simpa using hj)))
  have hcoe : ∀ j ∈ univ.filter (· ≤ k), s j = ((s j).toReal : EReal) := fun j hj =>
    (EReal.coe_toReal (hs j).ne (hb j hj)).symm
  have hkc : s k = ((s k).toReal : EReal) := hcoe k (by simp)
  have hle : ∀ j ∈ univ.filter (· ≤ k), (s k).toReal ≤ (s j).toReal := fun j hj => by
    have := hd (show j ≤ k by simpa using hj)
    rw [hkc, hcoe j hj] at this
    exact EReal.coe_le_coe_iff.1 this
  have hcard : ((univ.filter (· ≤ k)).card : ℝ) = ((k.val + 1 : ℕ) : ℝ) := by
    congr 1
    have : (univ.filter (· ≤ k)) = Iic k := by ext; simp
    rw [this, Fin.card_Iic]
  have hsum : ∑ j ∈ univ.filter (· ≤ k), ((s j).toReal - (s k).toReal)
      = ∑ j ∈ univ.filter (· ≤ k), (s j).toReal - ((k.val + 1 : ℕ) : ℝ) * (s k).toReal := by
    rw [sum_sub_distrib, sum_const, nsmul_eq_mul, hcard]
  rw [sum_congr rfl hcoe, ← coe_sum, hkc, ← EReal.coe_mul, ← EReal.coe_add, EReal.coe_lt_coe_iff,
    EReal.coe_lt_coe_iff]
  rw [← sub_lt_iff_lt_add, ← hsum]
  constructor
  · intro h
    by_contra hlt
    have hlt : (s k).toReal ≤ τ := not_lt.1 hlt
    refine absurd h (not_lt.2 ?_)
    rw [← hτ]
    calc ∑ j, over τ (s j) = ∑ j ∈ univ.filter (· ≤ k), over τ (s j) := by
          refine (sum_subset (subset_univ _) fun j _ hj => over_of_le ?_).symm
          have hj : k ≤ j := by
            have : ¬ j ≤ k := by simpa using hj
            exact (not_le.1 this).le
          exact (hd hj).trans (by rw [hkc]; exact EReal.coe_le_coe_iff.2 hlt)
      _ ≤ _ := sum_le_sum fun j hj => by
          rw [over, if_neg (hb j hj)]
          exact max_le (by linarith) (by linarith [hle j hj])
  · intro h
    calc ∑ j ∈ univ.filter (· ≤ k), ((s j).toReal - (s k).toReal)
        < ∑ j ∈ univ.filter (· ≤ k), ((s j).toReal - τ) :=
          sum_lt_sum_of_nonempty ⟨k, by simp⟩ fun j _ => by linarith
      _ ≤ ∑ j ∈ univ.filter (· ≤ k), over τ (s j) := sum_le_sum fun j hj => le_over (hb j hj)
      _ ≤ ∑ j, over τ (s j) := sum_le_univ_sum_of_nonneg fun j => over_nonneg _ _
      _ = c := hτ

/-- The threshold from the descending row is the number that the entries exceed by `c` in all. -/
theorem sortTau_eq (hs : ∀ j, s j < ⊤) (hd : Antitone s) (c τ : ℝ) (hc : 0 < c)
    (hτ : ∑ j, over τ (s j) = c) : sortTau s ((1 - c : ℝ) : EReal) = τ := by
  have hT : 0 < (univ.filter ((τ : EReal) < s ·)).card := by
    rw [card_pos]
    by_contra h
    have h : ∀ j, s j ≤ τ := fun j => not_lt.1 fun hj => h ⟨j, by simpa using hj⟩
    rw [sum_eq_zero fun j _ => over_of_le (h j)] at hτ
    exact hc.ne hτ
  have hk : ∑ k, chk s ((1 - c : ℝ) : EReal) k = (((univ.filter ((τ : EReal) < s ·)).card : ℝ) : EReal) := by
    simp only [chk_eq s hs hd c τ hτ, ← coe_sum, sum_boole]
  have hm : ∑ k, chk s ((1 - c : ℝ) : EReal) k * s k
      = ((∑ k ∈ univ.filter ((τ : EReal) < s ·), (s k).toReal : ℝ) : EReal) := by
    rw [sum_filter, coe_sum]
    refine sum_congr rfl fun k _ => ?_
    rw [chk_eq s hs hd c τ hτ]
    split_ifs with h
    · rw [EReal.coe_one, one_mul, EReal.coe_toReal (hs k).ne (bot_le.trans_lt h).ne']
    · simp
  have ho : ∑ k ∈ univ.filter ((τ : EReal) < s ·), (s k).toReal
      - (univ.filter ((τ : EReal) < s ·)).card * τ = c := by
    rw [← hτ, ← nsmul_eq_mul, ← sum_const, ← sum_sub_distrib, sum_filter]
    refine sum_congr rfl fun k _ => ?_
    split_ifs with h
    · rw [over_of_lt (hs k) h]
    · rw [over_of_le (not_lt.1 h)]
  have h1 : (1 : ℝ) ≤ (univ.filter ((τ : EReal) < s ·)).card := by exact_mod_cast hT
  rw [sortTau, hk, hm, max_eq_right (by rw [← EReal.coe_one]; exact EReal.coe_le_coe_iff.2 h1), ← EReal.coe_one,
    ← EReal.coe_sub, ← EReal.coe_add, coe_div (by linarith)]
  congr 1
  rw [div_eq_iff (by linarith)]
  linarith

end SortTau

/-- With lambda minus infinity the threshold is minus infinity, taken either way. -/
theorem maxTau_bot (z : Fin n → EReal) : maxTau z ⊥ = ⊥ := by
  refine le_bot_iff.1 (Finset.sup_le fun i _ => ?_)
  rw [cand, sum_ge01, EReal.add_bot, bot_div (card_above_pos z i)]

/-- At lambda minus infinity the threshold of a sorted row is minus infinity. -/
theorem sortTau_bot (s : Fin n → EReal) : sortTau s ⊥ = ⊥ := by
  obtain ⟨x, hx⟩ : ∃ x : ℝ, ∑ k, chk s ⊥ k = (x : EReal) := by
    refine ⟨∑ k, (if chk s ⊥ k = 1 then (1 : ℝ) else 0), ?_⟩
    rw [coe_sum]; refine sum_congr rfl fun k _ => ?_
    unfold chk; split_ifs <;> simp_all
  have hm : max (1 : EReal) (x : EReal) = ((max 1 x : ℝ) : EReal) :=
    (EReal.coe_strictMono.monotone.map_max (a := 1) (b := x)).symm
  rw [sortTau, EReal.add_bot, hx, hm, bot_div (lt_max_of_lt_left one_pos)]

/-- THE PROJECTION OF A ROW IS THE SAME for both thresholds: the row below plus infinity, lambda below one (minus
    infinity allowed), the second threshold taken from a descending arrangement of the row. -/
theorem proj_eq (z s : Fin n → EReal) (l : EReal) (hz : ∀ j, z j < ⊤) (hl : l < 1) (hd : Antitone s)
    (σ : Equiv.Perm (Fin n)) (hσ : ∀ k, s k = z (σ k)) (i : Fin n) :
    max (z i - maxTau z l) 0 = max (z i - sortTau s l) 0 := by
  by_cases hb : z i = ⊥
  · rw [hb, sub_eq_add_neg, sub_eq_add_neg, EReal.bot_add, EReal.bot_add]
  by_cases hlb : l = ⊥
  · rw [hlb, maxTau_bot, sortTau_bot]
  lift l to ℝ using ⟨(hl.trans (by rw [← EReal.coe_one]; exact EReal.coe_lt_top 1)).ne, hlb⟩
  obtain ⟨c, rfl⟩ : ∃ c : ℝ, l = 1 - c := ⟨1 - l, by ring⟩
  have hc : 0 < c := by
    rw [← EReal.coe_one, EReal.coe_lt_coe_iff] at hl; linarith
  obtain ⟨τ, h1, h2⟩ := maxTau_spec z hz ⟨i, hb⟩ c hc
  have h3 : ∑ k, over τ (s k) = c := by
    simp only [hσ]; rw [← h2]; exact Equiv.sum_comp σ fun j => over τ (z j)
  rw [h1, sortTau_eq s (fun k => by rw [hσ]; exact hz _) hd c τ hc h3]

end Cert.Row
-- ==== Proof.BlockRead.lean ====
/- The block expressions of `Block` read at an index, over the extended reals. -/
module

public import proofs.«01_k».proof.Proof.Block
public import proofs.«01_k».proof.Proof.Row
public import Idealize.ShloMosaic.Lib.Pointwise

@[expose] public section

set_option maxRecDepth 16384

noncomputable section

namespace Cert.KernelIdeal.Block

open Idealize.ShloMosaic Idealize.ShloMosaic.Pointwise
open Cert.KernelIdeal Cert.KernelIdeal.Facts

/-- The second layer's products summed for one row of features, over the extended reals. -/
def mlpE (x : Fin 1024 → EReal) (w1 : Fin 1024 → Fin 64 → EReal) (b1 w2 : Fin 64 → EReal) : EReal :=
  ∑ h, max (∑ f, x f * w1 f h + b1 h) 0 * w2 h

/-- A block's sum of products at row `r`. -/
abbrev mlpRow (x : FVec Ideal S2048x1024 .f32) (w1 : FVec Ideal S1024x64 .f32) (b1 w2 : FVec Ideal S1x64 .f32)
    (r : Fin 2048) : EReal :=
  mlpE (fun f => x (ix2 r f)) (fun f h => w1 (ix2 f h)) (fun h => b1 (ix2 0 h)) (fun h => w2 (ix2 0 h))

/-- Part `k` holds rows `256 k …`. -/
theorem mlpPart_apply (x : FVec Ideal S2048x1024 .f32) (w1 : FVec Ideal S1024x64 .f32) (b1 w2 : FVec Ideal S1x64 .f32)
    (k : Fin 8) (r : Fin 256) :
    mlpPart x w1 b1 w2 k (ix2 r 0) = mlpRow x w1 b1 w2 ⟨256 * k.val + r.val, by omega⟩ := by
  unfold mlpRow mlpE
  pointwise [mlpPart]

/-- Lambda from the pre-activation, over the extended reals. -/
def lamE (o : EReal) : EReal :=
  (0 - (max (0 - o) 0 + Ideal.log1p (Ideal.exp (0 - FloatOps.absf (F := Ideal) (φ := .f32) (0 - o)))))
    + Ideal.ofBits .f32 0x3F7D70A4#32

/-- The eight parts side by side are the rows of the block. -/
theorem logit_apply (x : FVec Ideal S2048x1024 .f32) (w1 : FVec Ideal S1024x64 .f32) (b1 w2 : FVec Ideal S1x64 .f32)
    (b2 : EReal) (r : Fin 2048) :
    logit x w1 b1 w2 b2 (ix2 0 r) = mlpRow x w1 b1 w2 r + b2 := by
  pointwise [logit]
  simp only [mlpPart_apply]
  congr 1
  split_ifs <;> exact congrArg (mlpRow x w1 b1 w2) (Fin.ext (by norm_num <;> omega))

/-- Lambda of a block of logits, at one entry. -/
theorem lamOf_apply (o : FVec Ideal S1x2048 .f32) (r : Fin 2048) : lamOf o (ix2 0 r) = lamE (o (ix2 0 r)) := by
  pointwise [lamOf, row]
  simp [lamE]

/-- The gate of rows `j` and `i` in a column: one where row `j` is at least row `i`. -/
theorem gate_apply (z : FVec Ideal S32x512 .f32) (j i : Fin 32) (r : Fin 512) :
    gate z j (ix2 i r) = Row.ge01 (z (ix2 j r)) (z (ix2 i r)) := by
  pointwise [gate, rowOf]
  rfl

/-- Row `j` repeated down the columns. -/
theorem rowOf_apply (z : FVec Ideal S32x512 .f32) (j i : Fin 32) (r : Fin 512) : rowOf z j (ix2 i r) = z (ix2 j r) := by
  pointwise [rowOf]

/-- Vectors added one after another, at an index: their sum over the list. -/
theorem foldl_addf_apply {s : Shape} (g : Fin 32 → FVec Ideal s .f32) (js : List (Fin 32)) (a : FVec Ideal s .f32)
    (i : s.Idx) : js.foldl (fun a j => addf a (g j)) a i = a i + (js.map fun j => g j i).sum := by
  induction js generalizing a with
  | nil => simp
  | cons j js ih => rw [List.foldl_cons, ih, List.map_cons, List.sum_cons, ← add_assoc]; rfl

/-- The even and the odd rows are all rows. -/
theorem evens_add_odds (f : Fin 32 → EReal) : (evens.map f).sum + (odds.map f).sum = ∑ j, f j := by
  rw [← List.sum_append, ← List.map_append, Fin.sum_univ_def]
  exact (List.Perm.map f (by decide : (evens ++ odds).Perm (List.finRange 32))).sum_eq

/-- The body counts the rows that are at least row `i`. -/
theorem counts_apply (z : FVec Ideal S32x512 .f32) (i : Fin 32) (r : Fin 512) :
    counts z evens (ix2 i r) + counts z odds (ix2 i r) = ∑ j, Row.ge01 (z (ix2 j r)) (z (ix2 i r)) := by
  simp only [counts, foldl_addf_apply, gate_apply]
  pointwise []
  exact evens_add_odds _

/-- The body sums the rows that are at least row `i`. -/
theorem sums_apply (z : FVec Ideal S32x512 .f32) (i : Fin 32) (r : Fin 512) :
    sums z evens (ix2 i r) + sums z odds (ix2 i r)
      = ∑ j, Row.ge01 (z (ix2 j r)) (z (ix2 i r)) * z (ix2 j r) := by
  simp only [sums, foldl_addf_apply, ← evens_add_odds, ← gate_apply]
  pointwise []
  simp only [rowOf_apply]

/-- The threshold of one column of a column part: the largest candidate of that column. -/
theorem tauPart_apply (zt : FVec Ideal S32x2048 .f32) (l : FVec Ideal S1x2048 .f32) (c : Fin 4) (r : Fin 512) :
    tauPart zt l c (ix2 0 r)
      = Row.maxTau (fun j => zt (ix2 j ⟨512 * c.val + r.val, by omega⟩)) (l (ix2 0 ⟨512 * c.val + r.val, by omega⟩)) := by
  have hb : Ideal.ofBits .f32 0xFF800000#32 = ⊥ := by simp [Ideal.ofBits, Ideal.ieee]
  pointwise [tauPart]
  simp only [sums_apply, counts_apply, hb]
  pointwise []
  rfl

/-- The four column parts side by side. -/
theorem tauOf_apply (zt : FVec Ideal S32x2048 .f32) (l : FVec Ideal S1x2048 .f32) (r : Fin 2048) :
    tauOf zt l (ix2 0 r) = Row.maxTau (fun j => zt (ix2 j r)) (l (ix2 0 r)) := by
  pointwise [tauOf]
  simp only [tauPart_apply]
  split_ifs <;>
    exact congrArg (fun r => Row.maxTau (fun j => zt (ix2 j r)) (l (ix2 0 r))) (Fin.ext (by norm_num <;> omega))

/-- The block of projections at an entry. -/
theorem probOf_apply (z : FVec Ideal S2048x32 .f32) (l : FVec Ideal S1x2048 .f32) (r : Fin 2048) (i : Fin 32) :
    probOf z l (ix2 r i)
      = Ideal.div (max (z (ix2 r i) - Row.maxTau (fun j => z (ix2 r j)) (l (ix2 0 r))) 0)
          (max (Ideal.ofBits .f32 0x3F800000#32 - l (ix2 0 r)) (Ideal.ofBits .f32 0x3C23D70A#32)) := by
  pointwise [probOf]
  simp only [tauOf_apply]
  pointwise []

end Cert.KernelIdeal.Block
-- ==== Proof.Arrays.lean ====
/- The kernel's two result arrays after its run, as functions of the argument arrays, entry by entry. -/
module

public import proofs.«01_k».proof.Proof.BlockRead
public import Idealize.ShloMosaic.Lib.Pipeline.ValueKit
public import Idealize.ShloMosaic.Lib.Pointwise

@[expose] public section

set_option maxRecDepth 16384

noncomputable section

namespace Cert.KernelIdeal.Block

open Idealize.ShloMosaic Idealize.ShloMosaic.TcCoe Idealize.SL.Sem
open Idealize.ShloMosaic.Pipeline (Dat)
open Idealize.ShloMosaic.Pointwise
open Cert.KernelIdeal Cert.KernelIdeal.Gen

/-- Row `n` of the scores, the two leading axes taken as one. -/
def zRow (z : FVec Ideal S4x4096x32 .f32) (n : Fin 16384) (j : Fin 32) : EReal :=
  z (ix3 (⟨n.val / 4096, by omega⟩ : Fin 4) (⟨n.val % 4096, by omega⟩ : Fin 4096) j)

/-- Lambda of row `n` of the features. -/
def lamAt (x : FVec Ideal S4x4096x1024 .f32) (w1 : FVec Ideal S64x1024 .f32) (b1 : FVec Ideal S64 .f32)
    (w2 : FVec Ideal S1x64 .f32) (b2 : FVec Ideal S1 .f32) (n : Fin 16384) : EReal :=
  lamE (mlpE (fun f => x (ix3 (⟨n.val / 4096, by omega⟩ : Fin 4) (⟨n.val % 4096, by omega⟩ : Fin 4096) f))
    (fun f h => w1 (ix2 h f)) (fun h => b1 (ix1 h)) (fun h => w2 (ix2 0 h)) + b2 (ix1 0))

/-- The projection of row `n` at entry `i`, the threshold the largest candidate. -/
def probAt (z : FVec Ideal S4x4096x32 .f32) (l : Fin 16384 → EReal) (n : Fin 16384) (i : Fin 32) : EReal :=
  Ideal.div (max (zRow z n i - Row.maxTau (zRow z n) (l n)) 0)
    (max (Ideal.ofBits .f32 0x3F800000#32 - l n) (Ideal.ofBits .f32 0x3C23D70A#32))

variable (m : (ℓ : Loc nD τ sig) → Buf (Elt Ideal) ℓ)

/-- The windows' block indices at every grid point. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0]
    ∧ win0_6.index t = ![t.val, 0] ∧ win0_7.index t = ![t.val, 0] :=
  (by decide +kernel : ∀ t : Fin grid0.N, _)

/-- Entry `(r, j)` of a block of scores is entry `j` of the row the block's row `r` stands for. -/
theorem zBlock_apply (c : Dev nD) (t : Fin cfg0.N) (r : Fin 2048) (j : Fin 32) (n : Fin 16384)
    (hn : n.val = t.val * 2048 + r.val) :
    (iblk m c 0 t : FVec Ideal S2048x32 .f32) (ix2 r j) = zRow (m ((c : Thread nD τ).loc main_arg0)) n j := by
  unfold zRow
  blk_point [iblk, V, idx t]

/-- Lambda of row `r` of a block is lambda of the row of the features that it stands for. -/
theorem lamRow_apply (c : Dev nD) (t : Fin cfg0.N) (r : Fin 2048) (n : Fin 16384) (hn : n.val = t.val * 2048 + r.val) :
    lamRow (F := Ideal) (iblk m c 1 t) (iblk m c 2 t) (iblk m c 3 t) (iblk m c 4 t) (iblk m c 5 t) (ix2 0 r)
      = lamAt (m ((c : Thread nD τ).loc main_arg1)) (m ((c : Thread nD τ).loc main_arg2))
          (m ((c : Thread nD τ).loc main_arg3)) (m ((c : Thread nD τ).loc main_arg4))
          (m ((c : Thread nD τ).loc main_arg5)) n := by
  unfold lamRow lamAt
  rw [lamOf_apply, logit_apply]
  unfold mlpRow
  blk_point [iblk, V, idx t]

/-- The array of lambdas after the run. -/
theorem final_lam (c : Dev nD) : (dats m 0 c).arrAt 7 (cfgs 0).N
    = fun i : S16384x1.Idx => lamAt (m ((c : Thread nD τ).loc main_arg1)) (m ((c : Thread nD τ).loc main_arg2))
          (m ((c : Thread nD τ).loc main_arg3)) (m ((c : Thread nD τ).loc main_arg4))
          (m ((c : Thread nD τ).loc main_arg5)) (i 0) := by
  refine (dats m 0 c).arrAt_eq_of_covers 7 _ (by decide +kernel) fun t _ y => ?_
  blk_simp
  rw [after0_7, outs_lam]
  obtain ⟨r, q, rfl⟩ : ∃ (r : Fin 2048) (q : Fin 1), y = ix2 r q := ⟨y 0, y 1, eq_ix2 y⟩
  obtain rfl : q = 0 := Subsingleton.elim _ _
  refine Eq.trans ?_ (lamRow_apply m c t r _ ?_)
  · pointwise []
  · blk_simp
    simp [idx t]

/-- The array of projections after the run. -/
theorem final_prob (c : Dev nD) : (dats m 0 c).arrAt 6 (cfgs 0).N
    = fun i : S16384x32.Idx => probAt (m ((c : Thread nD τ).loc main_arg0))
        (lamAt (m ((c : Thread nD τ).loc main_arg1)) (m ((c : Thread nD τ).loc main_arg2))
          (m ((c : Thread nD τ).loc main_arg3)) (m ((c : Thread nD τ).loc main_arg4))
          (m ((c : Thread nD τ).loc main_arg5))) (i 0) (i 1) := by
  refine (dats m 0 c).arrAt_eq_of_covers 6 _ (by decide +kernel) fun t _ y => ?_
  blk_simp
  rw [after0_6, outs_prob]
  obtain ⟨r, q, rfl⟩ : ∃ (r : Fin 2048) (q : Fin 32), y = ix2 r q := ⟨y 0, y 1, eq_ix2 y⟩
  have hn : ((win0_6.blk t).view.emb (ix2 r q) 0).val = t.val * 2048 + r.val := by blk_simp; simp [idx t]
  have hi : (win0_6.blk t).view.emb (ix2 r q) 1 = q := by ext; blk_simp; simp [idx t]
  generalize (win0_6.blk t).view.emb (ix2 r q) 0 = n at hn ⊢
  rw [hi, probOf_apply, lamRow_apply m c t r n hn, zBlock_apply m c t r q n hn]
  simp only [zBlock_apply m c t r _ n hn]
  rfl

end Cert.KernelIdeal.Block
-- ==== Proof.RefLam.lean ====
/- The reference's lambda, read entry by entry. -/
module

public import proofs.«01_k».proof.Proof.Arrays
public import proofs.«01_k».proof.Proof.Gen.ReferenceIdeal.Read

@[expose] public section

set_option maxRecDepth 16384

noncomputable section

namespace Cert.ReferenceIdeal.Ref

open Idealize.ShloMosaic Idealize.ShloMosaic.TcCoe Idealize.SL.Sem
open Idealize.ShloMosaic.Pointwise
open Cert.ReferenceIdeal Cert.ReferenceIdeal.Gen Cert.ReferenceIdeal.Read
open Cert.KernelIdeal.Block (zRow lamAt lamE mlpE)

variable (z : FVec Ideal S4x4096x32 .f32) (x : FVec Ideal S4x4096x1024 .f32) (w1 : FVec Ideal S64x1024 .f32)
  (b1 : FVec Ideal S64 .f32) (w2 : FVec Ideal S1x64 .f32) (b2 : FVec Ideal S1 .f32)

/-- The reference's logit of row `n`. -/
theorem logit_ref (n : Fin 16384) : val_main_v13 (F := Ideal) x w1 b1 w2 b2 (ix2 n 0)
    = mlpE (fun f => x (ix3 (⟨n.val / 4096, by omega⟩ : Fin 4) (⟨n.val % 4096, by omega⟩ : Fin 4096) f))
    (fun f h => w1 (ix2 h f)) (fun h => b1 (ix1 h)) (fun h => w2 (ix2 0 h)) + b2 (ix1 0) := by
  pointwise [val_main_v13, val_main_v12, val_main_v11, val_main_v10, val_main_v9, val_main_v8, val_main_v7, val_main_v6,
    val_main_v5, val_main_v4, val_main_v3, val_main_v2, val_main_v1, val_main_cst, mlpE]

/-- The reference's lambda of row `n`. -/
theorem lam_ref (n : Fin 16384) : val_main_v16 (F := Ideal) x w1 b1 w2 b2 (ix2 n 0) = lamAt x w1 b1 w2 b2 n := by
  unfold lamAt
  rw [← logit_ref]
  pointwise [val_main_v16, val_main_v15, val_main_cst_0, val_main_v14, val_main_call0_v1, val_main_call0_call0_v11,
    val_main_call0_call0_v10, val_main_call0_call0_v9, val_main_call0_call0_v8, val_main_call0_call0_v7,
    val_main_call0_call0_v6, val_main_call0_call0_v5, val_main_call0_call0_v4, val_main_call0_call0_v3,
    val_main_call0_call0_v2, val_main_call0_call0_v1, val_main_call0_call0_v0, val_main_call0_call0_cst, val_main_call0_v0, lamE]
  simp only [ne_eq, not_true_eq_false, if_false, zero_sub]

end Cert.ReferenceIdeal.Ref
-- ==== Proof.RefProb.lean ====
/- The reference's sort, cumulative sum and projection, read entry by entry. -/
module

public import proofs.«01_k».proof.Proof.RefLam
public import Idealize.ShloMosaic.Lib.SortFacts

@[expose] public section

set_option maxRecDepth 16384

noncomputable section

namespace Cert.ReferenceIdeal.Ref

open Idealize.ShloMosaic Idealize.ShloMosaic.TcCoe Idealize.SL.Sem
open Idealize.ShloMosaic.Pointwise
open Cert.ReferenceIdeal Cert.ReferenceIdeal.Gen Cert.ReferenceIdeal.Read
open Cert.KernelIdeal.Block (zRow lamAt lamE mlpE)

variable (z : FVec Ideal S4x4096x32 .f32) (x : FVec Ideal S4x4096x1024 .f32) (w1 : FVec Ideal S64x1024 .f32)
  (b1 : FVec Ideal S64 .f32) (w2 : FVec Ideal S1x64 .f32) (b2 : FVec Ideal S1 .f32)

/-- The score array's entry `(n, j)`. -/
theorem z_ref (n : Fin 16384) (j : Fin 32) : val_main_v0 (F := Ideal) z (ix2 n j) = zRow z n j := by
  pointwise [val_main_v0, zRow]

/-- Row `n` of the scores in descending order. -/
def sRow (n : Fin 16384) (k : Fin 32) : EReal := val_main_v19 (F := Ideal) z (ix2 n k)

/-- The sort's comparator is "less than". -/
theorem comparator_iff (a b : EReal) : comparator_f32_d1 (F := Ideal) a b = 1#1 ↔ a < b := by
  pointwise [comparator_f32_d1]
  have h (c : EReal) : (if c = 0 then 0 else c) = c := by split_ifs with h <;> simp [h]
  simp only [ne_eq, not_true_eq_false, if_false, h]
  change Ideal.cmp .olt a b = 1#1 ↔ _
  rw [Ideal.cmp_olt]
  by_cases h : a < b <;> simp [h]

/-- A stable sort's positions, by the relation "larger": a permutation along which the values descend. -/
theorem sorted_perm (f : Fin 32 → EReal) (B : Fin 32 → Fin 32 → Bool) (hB : ∀ k k', B k k' = true ↔ f k' < f k) :
    ∃ σ : Equiv.Perm (Fin 32), (∀ k, σ k = sortedFrom B k) ∧ Antitone fun k => f (σ k) := by
  have hB' (k k') : B k k' = false ↔ f k ≤ f k' := by rw [← Bool.not_eq_true, hB, not_lt]
  have hn (i j : Fin 32) (hij : i < j) : f (sortedFrom B j) ≤ f (sortedFrom B i) :=
    (hB' (sortedFrom B j) (sortedFrom B i)).mp (sortedFrom_noInversion B B (fun a b h => (hB' b a).mpr ((hB a b).mp h).le)
      (fun _ _ h => h) (fun a b c h h' => (hB' a c).mpr (((hB' a b).mp h).trans ((hB' b c).mp h'))) i j hij)
  obtain ⟨σ, hσ⟩ : ∃ σ : Equiv.Perm (Fin 32), ∀ k, σ k = sortedFrom B k :=
    ⟨Equiv.ofBijective _ ⟨sortedFrom_injective B, sortedFrom_surjective B⟩, fun k => Equiv.ofBijective_apply _ _ k⟩
  refine ⟨σ, hσ, fun i j hij => ?_⟩
  simp only [hσ]
  rcases hij.eq_or_lt with rfl | hij
  · exact le_rfl
  · exact hn i j hij

/-- The negated scores. -/
theorem neg_ref (n : Fin 16384) (j : Fin 32) : val_main_v17 (F := Ideal) z (ix2 n j) = -zRow z n j := by
  rw [← z_ref]
  pointwise [val_main_v17]

/-- A row position replaced along the row. -/
theorem along_row (n : Fin 16384) (k j : Fin 32) : Shape.Idx.along (s := S16384x32) (ix2 n k) 1 j = ix2 n j := by
  funext a
  match a with
  | ⟨0, _⟩ => rfl
  | ⟨1, _⟩ => rfl

/-- A sort along the rows, at one entry. -/
theorem sort_row (cmp : EReal → EReal → BitVec 1) (X : FVec Ideal S16384x32 .f32) (n : Fin 16384) (k : Fin 32) :
    Host.sort S16384x32 1 cmp X (ix2 n k)
      = X (ix2 n (sortedFrom (fun j j' => cmp (X (ix2 n j)) (X (ix2 n j')) == 1#1) k)) := by
  have key (g : Fin 32 → S16384x32.Idx) (hg : g = fun j => ix2 n j) :
      X (g (sortedFrom (fun j j' => cmp (X (g j)) (X (g j')) == 1#1) k))
        = X (ix2 n (sortedFrom (fun j j' => cmp (X (ix2 n j)) (X (ix2 n j')) == 1#1) k)) := by
    subst hg; rfl
  exact key (fun j => Shape.Idx.along (s := S16384x32) (ix2 n k) 1 j) (funext (along_row n k))

/-- The sorted row is the row rearranged, in descending order. -/
theorem sRow_perm (n : Fin 16384) :
    ∃ σ : Equiv.Perm (Fin 32), (∀ k, sRow z n k = zRow z n (σ k)) ∧ Antitone (sRow z n) := by
  obtain ⟨σ, hσ, hd⟩ := sorted_perm (zRow z n)
    (fun k k' => comparator_f32_d1 (F := Ideal) (-zRow z n k) (-zRow z n k') == 1#1)
    (fun k k' => by rw [beq_iff_eq, comparator_iff, EReal.neg_lt_neg_iff])
  have hs (k) : sRow z n k = zRow z n (σ k) := by
    unfold sRow
    rw [val_main_v19_apply, hσ]
    unfold val_main_v18
    rw [sort_row, neg_ref]
    simp only [neg_ref]
    exact neg_neg _
  exact ⟨σ, hs, fun i j hij => by rw [hs, hs]; exact hd hij⟩

/-- Folding an addition over a list adds the list's sum. -/
theorem foldl_add {ι : Type} (l : List ι) (g : ι → EReal) (v : EReal) :
    l.foldl (fun r a => r + g a) v = v + (l.map g).sum := by
  induction l generalizing v with
  | nil => simp
  | cons a l ih => rw [List.foldl_cons, ih, List.map_cons, List.sum_cons, add_assoc]

/-- Folding an addition over an enumeration of a finite type adds the sum over the type. -/
theorem foldl_enum {N : ℕ} {ι : Type} [Fintype ι] (e : Fin N ≃ ι) (g : ι → EReal) (v : EReal) :
    (List.finRange N).foldl (fun r a => r + g (e a)) v = v + ∑ i, g i := by
  rw [foldl_add, ← List.ofFn_eq_map, List.sum_ofFn, Equiv.sum_comp e g]

/-- A window's fold of additions, as a sum over the window. -/
theorem reduceWindow_sum {s t u : Shape} (window strides lo hi : Fin s.rank → ℕ) (X : s.Idx → EReal)
    (init : u.Idx → EReal) (h : s.ReduceWindows window strides lo hi t) (hu : 0 < u.numel) (j : t.Idx) :
    Host.reduceWindow (· + ·) window strides lo hi X init h hu j
      = init (Shape.Idx.first hu) + ∑ i : (⟨s.rank, window⟩ : Shape).Idx,
        if hin : ∀ a, lo a ≤ (j (a.cast h.1.symm)).val * strides a + (i a).val
          ∧ (j (a.cast h.1.symm)).val * strides a + (i a).val - lo a < s.size a
        then X fun a => ⟨_, (hin a).2⟩ else init (Shape.Idx.first hu) := by
  refine Eq.trans ?_ (foldl_enum (Shape.rowMajor (⟨s.rank, window⟩ : Shape)).symm (fun i =>
        if hin : ∀ a, lo a ≤ (j (a.cast h.1.symm)).val * strides a + (i a).val
          ∧ (j (a.cast h.1.symm)).val * strides a + (i a).val - lo a < s.size a
        then X fun a => ⟨_, (hin a).2⟩ else init (Shape.Idx.first hu)) (init (Shape.Idx.first hu)))
  unfold Host.reduceWindow
  refine congrArg (fun G => List.foldl G _ _) (funext fun r => funext fun a => congrArg (r + ·) ?_)
  exact dite_congr rfl (fun _ => rfl) (fun _ => rfl)

/-- The terms of a window of width 32 that ends at `k` are the entries up to `k`. -/
theorem window_sum (f : Fin 32 → EReal) (k : Fin 32) :
    ∑ w : Fin 32, (if h : 31 ≤ k.val + w.val ∧ k.val + w.val - 31 < 32 then f ⟨k.val + w.val - 31, h.2⟩ else 0)
      = ∑ j ∈ Finset.univ.filter (· ≤ k), f j := by
  symm
  have := k.isLt
  refine Finset.sum_bij_ne_zero (fun j hj _ => ⟨31 - k.val + j.val, ?_⟩) ?_ ?_ ?_ ?_
  · have := (Finset.mem_filter.mp hj).2
    omega
  · exact fun _ _ _ => Finset.mem_univ _
  · intro i _ _ j _ _ h
    have := congrArg Fin.val h
    simp only at this
    omega
  · intro w _ hw
    have h : 31 ≤ k.val + w.val ∧ k.val + w.val - 31 < 32 := by
      by_contra h
      exact hw (dif_neg h)
    rw [dif_pos h] at hw
    refine ⟨⟨k.val + w.val - 31, h.2⟩, Finset.mem_filter.mpr ⟨Finset.mem_univ _, ?_⟩, hw, Fin.ext ?_⟩
    · show k.val + w.val - 31 ≤ k.val
      omega
    · show 31 - k.val + (k.val + w.val - 31) = w.val
      omega
  · intro j hj _
    have := (Finset.mem_filter.mp hj).2
    rw [dif_pos (show 31 ≤ k.val + (31 - k.val + j.val) ∧ k.val + (31 - k.val + j.val) - 31 < 32 by omega)]
    exact congrArg f (Fin.ext (show j.val = k.val + (31 - k.val + j.val) - 31 by omega))

/-- Entry `k` of the row's cumulative sum. -/
theorem cum_ref (n : Fin 16384) (k : Fin 32) : val_main_v20 (F := Ideal) z (ix2 n k)
    = ∑ j ∈ Finset.univ.filter (· ≤ k), sRow z n j := by
  rw [← window_sum]
  have h0 : val_main_call2_call0_v0 (F := Ideal) (Shape.Idx.first h_S_) = 0 := by
    pointwise [val_main_call2_call0_v0, val_main_call2_call0_cst]
  unfold val_main_v20 Host.reduceWindowAdd
  rw [h0]
  rw [Ideal.hostReduceWindowAdd_def]
  unfold Ideal.hostReduceWindowAdd
  rw [reduceWindow_sum, zero_add]
  refine (ValueIdx.sum_idx2 (n0 := 1) (n1 := 32) _).trans ?_
  rw [Fintype.sum_unique]
  refine Finset.sum_congr rfl fun w _ => ?_
  by_cases h : 31 ≤ k.val + w.val ∧ k.val + w.val - 31 < 32
  · rw [dif_pos h]
    refine (dif_pos ?_).trans ?_
    · intro a
      match a with
      | ⟨0, _⟩ => exact ⟨Nat.zero_le _, show n.val * 1 + 0 - 0 < 16384 by omega⟩
      | ⟨1, _⟩ => exact ⟨show 31 ≤ k.val * 1 + w.val by omega, show k.val * 1 + w.val - 31 < 32 by omega⟩
    · unfold sRow
      refine congrArg _ (funext fun a => ?_)
      match a with
      | ⟨0, _⟩ => exact Fin.ext (show n.val * 1 + 0 - 0 = n.val by omega)
      | ⟨1, _⟩ => exact Fin.ext (show k.val * 1 + w.val - 31 = k.val + w.val - 31 by omega)
  · rw [dif_neg h]
    refine dif_neg fun hin => h ?_
    have h1 : 31 ≤ k.val * 1 + w.val ∧ k.val * 1 + w.val - 31 < 32 := hin ⟨1, Nat.one_lt_two⟩
    omega

/-- A comparison's bit as a number. -/
theorem uitofp_lt (a b : EReal) :
    FloatOps.uitofp (F := Ideal) .f32 (BitVec.ofBool (decide (a < b))) = if a < b then 1 else 0 := by
  by_cases h : a < b
  · rw [decide_eq_true h, if_pos h]
    exact congrArg ((↑) : ℝ → EReal) Nat.cast_one
  · rw [decide_eq_false h, if_neg h]
    exact congrArg ((↑) : ℝ → EReal) Nat.cast_zero

/-- Entry `k` of the row's check. -/
theorem check_ref (n : Fin 16384) (k : Fin 32) : val_main_v32 (F := Ideal) z x w1 b1 w2 b2 (ix2 n k)
    = Row.chk (sRow z n) (lamAt x w1 b1 w2 b2 n) k := by
  unfold Row.chk
  rw [← lam_ref, ← cum_ref]
  pointwise [val_main_v32, val_main_v31, val_main_v30, val_main_v29, val_main_v28, val_main_v27, val_main_v26,
    val_main_v25, val_main_cst_2, val_main_v24, val_main_v23, val_main_v22, val_main_cst_1, val_main_v21]
  have hk : (1 : EReal) + FloatOps.sitofp (F := Ideal) .f32 (BitVec.ofNat 32 k.val) = ((k.val + 1 : ℕ) : ℝ) := by
    change (1 : EReal) + (((BitVec.ofNat 32 k.val).toInt : ℝ) : EReal) = _
    rw [show (BitVec.ofNat 32 k.val).toInt = k.val by revert k; decide]
    push_cast
    rw [add_comm]
  rw [hk]
  exact uitofp_lt _ _

/-- The reference's projection of row `n` at entry `i`, the threshold taken from the sorted row. -/
theorem prob_ref (n : Fin 16384) (i : Fin 32) : val_main_v50 (F := Ideal) z x w1 b1 w2 b2 (ix2 n i)
    = Ideal.div (max (zRow z n i - Row.sortTau (sRow z n) (lamAt x w1 b1 w2 b2 n)) 0)
      (max (Ideal.ofBits .f32 0x3F800000#32 - lamAt x w1 b1 w2 b2 n) (Ideal.ofBits .f32 0x3C23D70A#32)) := by
  unfold Row.sortTau
  simp only [← check_ref]
  rw [← lam_ref, ← z_ref]
  rw [max_comm (_ - _) 0, max_comm (_ - _) (Ideal.ofBits .f32 0x3C23D70A#32)]
  have h0 : id (constant (F := Ideal) S_ .f32 0x00000000#32) ix0 = 0 := by pointwise [id]
  have h1 : id (constant (F := Ideal) S_ .f32 0x3F800000#32) ix0 = 1 := by pointwise [id]
  have h2 : id (constant (F := Ideal) S_ .f32 0x3C23D70A#32) ix0 = Ideal.ofBits .f32 0x3C23D70A#32 := rfl
  pointwise [val_main_v50, val_main_v49, val_main_v48, val_main_call5_v1, val_main_call5_v0, val_main_cst_9,
    val_main_v47, val_main_v46, val_main_cst_8, val_main_v45, val_main_call4_v1, val_main_call4_v0, val_main_cst_7,
    val_main_v44, val_main_v43, val_main_v42, val_main_v41, val_main_v40, val_main_v39, val_main_v38, val_main_v37,
    val_main_cst_6, val_main_v36, val_main_cst_5, val_main_v35, val_main_v34, val_main_call3_v1, val_main_call3_v0,
    val_main_cst_4, val_main_v33, val_main_cst_3, sRow]
  rw [h0, h1, h2]

end Cert.ReferenceIdeal.Ref
-- ==== Proof.Agree.lean ====
/- Lambda is below one, the precondition bounds the scores, and the two programs' result arrays are equal. -/
module

public import proofs.«01_k».proof.Proof.RefProb

@[expose] public section

set_option maxRecDepth 16384

noncomputable section

namespace Cert.ReferenceIdeal.Ref

open Idealize.ShloMosaic Idealize.ShloMosaic.TcCoe Idealize.SL.Sem
open Idealize.ShloMosaic.Pointwise
open Cert.ReferenceIdeal Cert.ReferenceIdeal.Gen Cert.ReferenceIdeal.Read
open Cert.KernelIdeal.Block (zRow lamAt lamE mlpE probAt)

variable (z : FVec Ideal S4x4096x32 .f32) (x : FVec Ideal S4x4096x1024 .f32) (w1 : FVec Ideal S64x1024 .f32)
  (b1 : FVec Ideal S64 .f32) (w2 : FVec Ideal S1x64 .f32) (b2 : FVec Ideal S1 .f32)

/-- An exponential is nonnegative. -/
theorem exp_nonneg (y : EReal) : 0 ≤ Ideal.exp y := by
  induction y with
  | bot => exact le_rfl
  | top => exact le_top
  | coe r => exact EReal.coe_nonneg.mpr (Real.exp_pos r).le

/-- The logarithm of one plus a nonnegative number is nonnegative. -/
theorem log1p_nonneg (y : EReal) (h : 0 ≤ y) : 0 ≤ Ideal.log1p y := by
  induction y with
  | bot => exact absurd h (by simp)
  | top => exact le_top
  | coe r =>
    have hr : 0 ≤ r := EReal.coe_nonneg.mp h
    change 0 ≤ Ideal.log ((1 : ℝ) + (r : ℝ) : EReal)
    rw [← EReal.coe_add]
    change 0 ≤ if 1 + r ≤ 0 then (⊥ : EReal) else (Real.log (1 + r) : EReal)
    rw [if_neg (by linarith)]
    exact EReal.coe_nonneg.mpr (Real.log_nonneg (by linarith))

/-- The shift of lambda is below one. -/
theorem shift_lt_one : Ideal.ofBits .f32 0x3F7D70A4#32 < 1 := by
  rw [show Ideal.ofBits .f32 0x3F7D70A4#32 = ((16609444 / 16777216 : ℝ) : EReal) by
    simp [Ideal.ofBits, Ideal.ieee, -EReal.coe_mul]; norm_num]
  exact EReal.coe_lt_coe_iff.mpr (by norm_num : (16609444 / 16777216 : ℝ) < 1)

/-- Lambda is below one, whatever the logit. -/
theorem lamE_lt_one (o : EReal) : lamE o < 1 := by
  unfold lamE
  have h : 0 ≤ max (0 - o) 0 + Ideal.log1p (Ideal.exp (0 - FloatOps.absf (F := Ideal) (φ := .f32) (0 - o))) :=
    add_nonneg (le_max_right _ _) (log1p_nonneg _ (exp_nonneg _))
  generalize max (0 - o) 0 + Ideal.log1p (Ideal.exp (0 - FloatOps.absf (F := Ideal) (φ := .f32) (0 - o))) = s at h ⊢
  refine lt_of_le_of_lt ?_ shift_lt_one
  rw [zero_sub]
  calc -s + Ideal.ofBits .f32 0x3F7D70A4#32 ≤ 0 + Ideal.ofBits .f32 0x3F7D70A4#32 :=
        add_le_add_left (EReal.neg_le_zero.mpr h) _
    _ = _ := zero_add _

/-- The kernel's array of lambdas is the reference's. -/
theorem lam_agree : (fun i : S16384x1.Idx => lamAt x w1 b1 w2 b2 (i 0)) = val_main_v16 (F := Ideal) x w1 b1 w2 b2 := by
  funext i
  obtain ⟨n, q, rfl⟩ : ∃ (n : Fin 16384) (q : Fin 1), i = ix2 n q := ⟨i 0, i 1, eq_ix2 i⟩
  obtain rfl : q = 0 := Subsingleton.elim _ _
  exact (lam_ref x w1 b1 w2 b2 n).symm

/-- The kernel's array of projections is the reference's, where no score is plus infinity. -/
theorem prob_agree (hz : ∀ i, z i < (⊤ : EReal)) :
    (fun i : S16384x32.Idx => probAt z (lamAt x w1 b1 w2 b2) (i 0) (i 1)) = val_main_v50 (F := Ideal) z x w1 b1 w2 b2 := by
  funext i
  obtain ⟨n, q, rfl⟩ : ∃ (n : Fin 16384) (q : Fin 32), i = ix2 n q := ⟨i 0, i 1, eq_ix2 i⟩
  obtain ⟨σ, hσ, hd⟩ := sRow_perm z n
  rw [prob_ref, ← Row.proj_eq (zRow z n) (sRow z n) (lamAt x w1 b1 w2 b2 n) (fun j => hz _) (lamE_lt_one _) hd σ hσ q]
  rfl

end Cert.ReferenceIdeal.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Pre_z_below_inf
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Under the precondition no score is plus infinity. -/
theorem score_lt_top (z : FVec Ideal Cert.Pre_z_below_inf.S4x4096x32 .f32) (x : FVec Ideal Cert.Pre_z_below_inf.S4x4096x1024 .f32)
    (w1 : FVec Ideal Cert.Pre_z_below_inf.S64x1024 .f32) (b1 : FVec Ideal Cert.Pre_z_below_inf.S64 .f32)
    (w2 : FVec Ideal Cert.Pre_z_below_inf.S1x64 .f32) (b2 : FVec Ideal Cert.Pre_z_below_inf.S1 .f32)
    (h : Cert.Pre_z_below_inf.fn (F := Ideal) z x w1 b1 w2 b2 = fun _ => 1#1) (i : Cert.Pre_z_below_inf.S4x4096x32.Idx) :
    (z i : EReal) < (⊤ : EReal) := by
  have hi := congrFun h i
  change Ideal.cmp .olt (z i) (Ideal.ofBits .f32 0x7F800000#32) = 1#1 at hi
  rw [show Ideal.ofBits .f32 0x7F800000#32 = (⊤ : EReal) by simp [Ideal.ofBits, Ideal.ieee], Ideal.cmp_olt] at hi
  by_contra hn
  rw [decide_eq_false hn] at hi
  exact absurd hi (by decide)

/-- The reference runs and ends quiescent, its arguments unchanged. -/
theorem reference_frame : Cert.quiescent_ReferenceIdeal := fun m g _ =>
  (θ_run _ _ _).mono (fun r h => ⟨fun c => (h c).2.2, sem_eq_zero_of_no_sems (by decide) _⟩)
    (Cert.ReferenceIdeal.Value.run m g)

/-- Kernel and reference return equal arrays where no score is plus infinity. -/
theorem algebraic : Cert.algebraic_KernelIdeal_ReferenceIdeal_pre_z_below_inf := by
  intro m g m' g' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks m g, ?_⟩
  refine (θ_run _ _ _).mono (fun r h c => ?_) (Cert.ReferenceIdeal.Value.run m' g')
  obtain ⟨h0, h1, h2⟩ := h c
  obtain ⟨a0, a1, a2, a3, a4, a5⟩ := hagree c
  refine ⟨h0.trans ?_, h1.trans ?_, h2⟩
  · refine Eq.trans ?_ (Cert.KernelIdeal.Block.final_prob m c).symm
    rw [Cert.ReferenceIdeal.Read.val_main_v50_eq, a0, a1, a2, a3, a4, a5]
    exact (Cert.ReferenceIdeal.Ref.prob_agree _ _ _ _ _ _ (score_lt_top _ _ _ _ _ _ (hpre c))).symm
  · refine Eq.trans ?_ (Cert.KernelIdeal.Block.final_lam m c).symm
    rw [Cert.ReferenceIdeal.Read.val_main_v16_eq, a1, a2, a3, a4, a5]
    exact (Cert.ReferenceIdeal.Ref.lam_agree _ _ _ _ _).symm

/-- All the claims. -/
theorem claim : Cert.Claim :=
  ⟨Cert.Kernel.Gen.facts, Cert.KernelIdeal.Gen.facts, Cert.ReferenceIdeal.Gen.facts, Cert.Pre_z_below_inf.Gen.facts,
    fun m ρ _ => Cert.Kernel.Gen.frame m ρ, fun m ρ _ => Cert.KernelIdeal.Gen.frame m ρ,
    fun m ρ _ => Cert.KernelIdeal.Gen.frame m ρ, reference_frame, fun m g _ => reference_frame m g trivial,
    trivial, algebraic⟩

end Cert.Proof

end
